-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_levels [hPre_finite_levels : Cert.Pre_finite_levels.Facts] (m : (ℓ : Loc Cert.KernelIdeal.nD Cert.KernelIdeal.τ Cert.KernelIdeal.sig) → Buf (Elt Ideal) ℓ) : Prop :=
  ∀ c : Dev Cert.KernelIdeal.nD,
    (Cert.Pre_finite_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_levels [hPre_finite_levels : Cert.Pre_finite_levels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_levels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_levels [hKernelIdeal : Cert.KernelIdeal.Facts] [hPre_finite_levels : Cert.Pre_finite_levels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_levels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_levels [hReferenceIdeal : Cert.ReferenceIdeal.Facts] [hPre_finite_levels : Cert.Pre_finite_levels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_levels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_levels [hKernelIdeal : Cert.KernelIdeal.Facts] [hReferenceIdeal : Cert.ReferenceIdeal.Facts] [hPre_finite_levels : Cert.Pre_finite_levels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_levels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_levels : Cert.Pre_finite_levels.Facts),
    quiescent_Kernel (hKernel := hKernel)
    ∧ quiescent_KernelIdeal (hKernelIdeal := hKernelIdeal)
    ∧ quiescent_KernelIdeal_pre_finite_levels (hKernelIdeal := hKernelIdeal) (hPre_finite_levels := hPre_finite_levels)
    ∧ quiescent_ReferenceIdeal (hReferenceIdeal := hReferenceIdeal)
    ∧ quiescent_ReferenceIdeal_pre_finite_levels (hReferenceIdeal := hReferenceIdeal) (hPre_finite_levels := hPre_finite_levels)
    ∧ preserves_Kernel_KernelIdeal
    ∧ algebraic_KernelIdeal_ReferenceIdeal_pre_finite_levels (hKernelIdeal := hKernelIdeal) (hReferenceIdeal := hReferenceIdeal) (hPre_finite_levels := hPre_finite_levels)
-- ==== Pre_finite_levels.lean ====
abbrev S8x28x28 : Shape := ⟨3, ![8, 28, 28]⟩
abbrev S28x10000 : Shape := ⟨2, ![28, 10000]⟩
abbrev S256x10000 : Shape := ⟨2, ![256, 10000]⟩
abbrev S10x10000 : Shape := ⟨2, ![10, 10000]⟩
abbrev S_ : Shape := ⟨0, ![]⟩

class Facts : Prop where
  bcast_S_S256x10000 : S_.BroadcastsInDim S256x10000 (![] : Fin 0 → Fin S256x10000.rank)
  reducesTo_S256x10000_S_d0_1 : S256x10000.ReducesTo [0, 1] S_
  h_S_ : 0 < S_.numel

variable [Facts]

def fn {F : FTy → Type} [FloatOps F] (main_arg0 : FVec F S8x28x28 .f32) (main_arg1 : FVec F S28x10000 .f32) (main_arg2 : FVec F S28x10000 .f32) (main_arg3 : FVec F S256x10000 .f32) (main_arg4 : FVec F S10x10000 .f32) : IVec S_ 1 :=
  let main_v0 : FVec F S256x10000 .f32 := Host.absf main_arg3
  let main_cst : FVec F S_ .f32 := constant S_ .f32 0x7F800000#32
  let main_v1 : FVec F S256x10000 .f32 := broadcastInDim S256x10000 ![] bcast_S_S256x10000 main_cst
  let main_v2 : IVec S256x10000 1 := cmpf .olt main_v0 main_v1
  let main_c : IVec S_ 1 := constantI S_ 1 1#1
  let main_v3 : IVec S_ 1 := (fun x v => Host.reduce IntOp.andi x v reducesTo_S256x10000_S_d0_1 h_S_) main_v2 main_c
  main_v3
-- ==== Kernel.lean ====
abbrev S8x28x28 : Shape := ⟨3, ![8, 28, 28]⟩
abbrev S28x10000 : Shape := ⟨2, ![28, 10000]⟩
abbrev S256x10000 : Shape := ⟨2, ![256, 10000]⟩
abbrev S10x10000 : Shape := ⟨2, ![10, 10000]⟩
abbrev S8x784 : Shape := ⟨2, ![8, 784]⟩
abbrev S8x10 : Shape := ⟨2, ![8, 10]⟩
abbrev S28x2048 : Shape := ⟨2, ![28, 2048]⟩
abbrev S256x2048 : Shape := ⟨2, ![256, 2048]⟩
abbrev S10x2048 : Shape := ⟨2, ![10, 2048]⟩
abbrev S2048x784 : Shape := ⟨2, ![2048, 784]⟩
abbrev S1x2048 : Shape := ⟨2, ![1, 2048]⟩
abbrev S8x256x784 : Shape := ⟨3, ![8, 256, 784]⟩
abbrev S8x1x784 : Shape := ⟨3, ![8, 1, 784]⟩
abbrev S28x1x2048 : Shape := ⟨3, ![28, 1, 2048]⟩
abbrev S1x28x2048 : Shape := ⟨3, ![1, 28, 2048]⟩
abbrev S28x28x2048 : Shape := ⟨3, ![28, 28, 2048]⟩
abbrev S784x2048 : Shape := ⟨2, ![784, 2048]⟩
abbrev S2048x2048 : Shape := ⟨2, ![2048, 2048]⟩
abbrev S8x256x2048 : Shape := ⟨3, ![8, 256, 2048]⟩
abbrev S1x256x2048 : Shape := ⟨3, ![1, 256, 2048]⟩
abbrev S8x2048 : Shape := ⟨2, ![8, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8x28x28, .f32⟩
  | .hbm, ⟨1, _⟩ => ⟨S28x10000, .f32⟩
  | .hbm, ⟨2, _⟩ => ⟨S28x10000, .f32⟩
  | .hbm, ⟨3, _⟩ => ⟨S256x10000, .f32⟩
  | .hbm, ⟨4, _⟩ => ⟨S10x10000, .f32⟩
  | .hbm, ⟨5, _⟩ => ⟨S8x784, .f32⟩
  | .hbm, ⟨6, _⟩ => ⟨S8x10, .f32⟩
  | .local _ .vmem, ⟨0, _⟩ => ⟨S8x784, .f32⟩
  | .local _ .vmem, ⟨1, _⟩ => ⟨S28x2048, .f32⟩
  | .local _ .vmem, ⟨2, _⟩ => ⟨S28x2048, .f32⟩
  | .local _ .vmem, ⟨3, _⟩ => ⟨S28x2048, .f32⟩
  | .local _ .vmem, ⟨4, _⟩ => ⟨S28x2048, .f32⟩
  | .local _ .vmem, ⟨5, _⟩ => ⟨S256x2048, .f32⟩
  | .local _ .vmem, ⟨6, _⟩ => ⟨S256x2048, .f32⟩
  | .local _ .vmem, ⟨7, _⟩ => ⟨S10x2048, .f32⟩
  | .local _ .vmem, ⟨8, _⟩ => ⟨S10x2048, .f32⟩
  | .local _ .vmem, ⟨9, _⟩ => ⟨S8x10, .f32⟩
  | .local _ .vmem, ⟨10, _⟩ => ⟨S2048x784, .bf16⟩
  | _, _ => ⟨S8x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S28x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x28x28 : Shape := ⟨3, ![8, 28, 28]⟩
abbrev S28x10000 : Shape := ⟨2, ![28, 10000]⟩
abbrev S256x10000 : Shape := ⟨2, ![256, 10000]⟩
abbrev S10x10000 : Shape := ⟨2, ![10, 10000]⟩
abbrev S28 : Shape := ⟨1, ![28]⟩
abbrev S1x28 : Shape := ⟨2, ![1, 28]⟩
abbrev S28x28 : Shape := ⟨2, ![28, 28]⟩
abbrev S784 : Shape := ⟨1, ![784]⟩
abbrev S_ : Shape := ⟨0, ![]⟩
abbrev S784x1 : Shape := ⟨2, ![784, 1]⟩
abbrev S784x10000 : Shape := ⟨2, ![784, 10000]⟩
abbrev S8x784 : Shape := ⟨2, ![8, 784]⟩
abbrev S8x784x1 : Shape := ⟨3, ![8, 784, 1]⟩
abbrev S1 : Shape := ⟨1, ![1]⟩
abbrev S1x1x1 : Shape := ⟨3, ![1, 1, 1]⟩
abbrev S8x784x10000 : Shape := ⟨3, ![8, 784, 10000]⟩
abbrev S1x784x10000 : Shape := ⟨3, ![1, 784, 10000]⟩
abbrev S8x10000 : Shape := ⟨2, ![8, 10000]⟩
abbrev S10000x10 : Shape := ⟨2, ![10000, 10]⟩
abbrev S8x10 : Shape := ⟨2, ![8, 10]⟩

abbrev nBuf : Space → Nat
  | .hbm => 93
  | .vmem => 0
  | .smem => 0
  | _ => 0

abbrev bufTy : (tb : Table) → Fin (tcTables nBuf tb) → BufTy
  | .hbm, ⟨0, _⟩ => ⟨S8x28x28, .f32⟩
  | .hbm, ⟨1, _⟩ => ⟨S28x10000, .f32⟩
  | .hbm, ⟨2, _⟩ => ⟨S28x10000, .f32⟩
  | .hbm, ⟨3, _⟩ => ⟨S256x10000, .f32⟩
  | .hbm, ⟨4, _⟩ => ⟨S10x10000, .f32⟩
  | .hbm, ⟨5, _⟩ => ⟨S28, .i32⟩
  | .hbm, ⟨6, _⟩ => ⟨S1x28, .i32⟩
  | .hbm, ⟨7, _⟩ => ⟨S28x28, .i32⟩
  | .hbm, ⟨8, _⟩ => ⟨S784, .i32⟩
  | .hbm, ⟨9, _⟩ => ⟨S28, .i32⟩
  | .hbm, ⟨10, _⟩ => ⟨S28x28, .i32⟩
  | .hbm, ⟨11, _⟩ => ⟨S784, .i32⟩
  | .hbm, ⟨12, _⟩ => ⟨S_, .i32⟩
  | .hbm, ⟨13, _⟩ => ⟨S784, .i32⟩
  | .hbm, ⟨14, _⟩ => ⟨S784, .i1⟩
  | .hbm, ⟨15, _⟩ => ⟨S_, .i32⟩
  | .hbm, ⟨16, _⟩ => ⟨S784, .i32⟩
  | .hbm, ⟨17, _⟩ => ⟨S784, .i32⟩
  | .hbm, ⟨18, _⟩ => ⟨S784, .i32⟩
  | .hbm, ⟨19, _⟩ => ⟨S784x1, .i32⟩
  | .hbm, ⟨20, _⟩ => ⟨S784x10000, .f32⟩
  | .hbm, ⟨21, _⟩ => ⟨S_, .i32⟩
  | .hbm, ⟨22, _⟩ => ⟨S784, .i32⟩
  | .hbm, ⟨23, _⟩ => ⟨S784, .i1⟩
  | .hbm, ⟨24, _⟩ => ⟨S_, .i32⟩
  | .hbm, ⟨25, _⟩ => ⟨S784, .i32⟩
  | .hbm, ⟨26, _⟩ => ⟨S784, .i32⟩
  | .hbm, ⟨27, _⟩ => ⟨S784, .i32⟩
  | .hbm, ⟨28, _⟩ => ⟨S784x1, .i32⟩
  | .hbm, ⟨29, _⟩ => ⟨S784x10000, .f32⟩
  | .hbm, ⟨30, _⟩ => ⟨S784x10000, .f32⟩
  | .hbm, ⟨31, _⟩ => ⟨S_, .f32⟩
  | .hbm, ⟨32, _⟩ => ⟨S784x10000, .f32⟩
  | .hbm, ⟨33, _⟩ => ⟨S784x10000, .i1⟩
  | .hbm, ⟨34, _⟩ => ⟨S_, .f32⟩
  | .hbm, ⟨35, _⟩ => ⟨S_, .f32⟩
  | .hbm, ⟨36, _⟩ => ⟨S784x10000, .f32⟩
  | .hbm, ⟨37, _⟩ => ⟨S784x10000, .f32⟩
  | .hbm, ⟨38, _⟩ => ⟨S784x10000, .f32⟩
  | .hbm, ⟨39, _⟩ => ⟨S784x10000, .f32⟩
  | .hbm, ⟨40, _⟩ => ⟨S8x784, .f32⟩
  | .hbm, ⟨41, _⟩ => ⟨S_, .f32⟩
  | .hbm, ⟨42, _⟩ => ⟨S8x784, .f32⟩
  | .hbm, ⟨43, _⟩ => ⟨S8x784, .f32⟩
  | .hbm, ⟨44, _⟩ => ⟨S8x784, .f32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S8x784, .f32⟩
  | .hbm, ⟨49, _⟩ => ⟨S8x784, .f32⟩
  | .hbm, ⟨50, _⟩ => ⟨S_, .f32⟩
  | .hbm, ⟨51, _⟩ => ⟨S8x784, .f32⟩
  | .hbm, ⟨52, _⟩ => ⟨S8x784, .f32⟩
  | .hbm, ⟨53, _⟩ => ⟨S8x784, .i32⟩
  | .hbm, ⟨54, _⟩ => ⟨S_, .i32⟩
  | .hbm, ⟨55, _⟩ => ⟨S8x784, .i32⟩
  | .hbm, ⟨56, _⟩ => ⟨S8x784, .i1⟩
  | .hbm, ⟨57, _⟩ => ⟨S_, .i32⟩
  | .hbm, ⟨58, _⟩ => ⟨S8x784, .i32⟩
  | .hbm, ⟨59, _⟩ => ⟨S8x784, .i32⟩
  | .hbm, ⟨60, _⟩ => ⟨S8x784, .i32⟩
  | .hbm, ⟨61, _⟩ => ⟨S8x784x1, .i32⟩
  | .hbm, ⟨62, _⟩ => ⟨S1, .i32⟩
  | .hbm, ⟨63, _⟩ => ⟨S_, .i32⟩
  | .hbm, ⟨64, _⟩ => ⟨S8x784x1, .i32⟩
  | .hbm, ⟨65, _⟩ => ⟨S8x784x1, .i1⟩
  | .hbm, ⟨66, _⟩ => ⟨S1x1x1, .i32⟩
  | .hbm, ⟨67, _⟩ => ⟨S8x784x1, .i32⟩
  | .hbm, ⟨68, _⟩ => ⟨S8x784x1, .i1⟩
  | .hbm, ⟨69, _⟩ => ⟨S8x784x1, .i1⟩
  | .hbm, ⟨70, _⟩ => ⟨S_, .i1⟩
  | .hbm, ⟨71, _⟩ => ⟨S8x784, .i1⟩
  | .hbm, ⟨72, _⟩ => ⟨S8x784x10000, .f32⟩
  | .hbm, ⟨73, _⟩ => ⟨S8x784x10000, .i1⟩
  | .hbm, ⟨74, _⟩ => ⟨S_, .f32⟩
  | .hbm, ⟨75, _⟩ => ⟨S8x784x10000, .f32⟩
  | .hbm, ⟨76, _⟩ => ⟨S8x784x10000, .f32⟩
  | .hbm, ⟨77, _⟩ => ⟨S1x784x10000, .f32⟩
  | .hbm, ⟨78, _⟩ => ⟨S8x784x10000, .f32⟩
  | .hbm, ⟨79, _⟩ => ⟨S8x784x10000, .f32⟩
  | .hbm, ⟨80, _⟩ => ⟨S_, .f32⟩
  | .hbm, ⟨81, _⟩ => ⟨S8x10000, .f32⟩
  | .hbm, ⟨82, _⟩ => ⟨S_, .f32⟩
  | .hbm, ⟨83, _⟩ => ⟨S8x10000, .f32⟩
  | .hbm, ⟨84, _⟩ => ⟨S8x10000, .i1⟩
  | .hbm, ⟨85, _⟩ => ⟨S_, .f32⟩
  | .hbm, ⟨86, _⟩ => ⟨S_, .f32⟩
  | .hbm, ⟨87, _⟩ => ⟨S8x10000, .f32⟩
  | .hbm, ⟨88, _⟩ => ⟨S8x10000, .f32⟩
  | .hbm, ⟨89, _⟩ => ⟨S8x10000, .f32⟩
  | .hbm, ⟨90, _⟩ => ⟨S8x10000, .f32⟩
  | .hbm, ⟨91, _⟩ => ⟨S10000x10, .f32⟩
  | .hbm, ⟨92, _⟩ => ⟨S8x10, .f32⟩
  | _, _ => ⟨S8x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_c_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v30 : Ref sig .tc := ⟨.hbm, 52, rfl⟩
abbrev main_v31 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_v14 : Ref sig .tc := ⟨.hbm, 73, rfl⟩
abbrev main_call3_cst : Ref sig .tc := ⟨.hbm, 74, rfl⟩
abbrev main_call3_v15 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_8 : Ref sig .tc := ⟨.hbm, 80, rfl⟩
abbrev main_v36 : Ref sig .tc := ⟨.hbm, 81, rfl⟩
abbrev main_cst_9 : Ref sig .tc := ⟨.hbm, 82, rfl⟩
abbrev main_v37 : Ref sig .tc := ⟨.hbm, 83, rfl⟩
abbrev main_v38 : Ref sig .tc := ⟨.hbm, 84, rfl⟩
abbrev main_cst_10 : Ref sig .tc := ⟨.hbm, 85, rfl⟩
abbrev main_cst_11 : Ref sig .tc := ⟨.hbm, 86, rfl⟩
abbrev main_call4_v0 : Ref sig .tc := ⟨.hbm, 87, rfl⟩
abbrev main_call4_v1 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩

abbrev nD : Nat := 1
abbrev τ : Topo := Topo.v7x

variable {F : FTy → Type} [FloatOps F]
-- ==== Proof.KernelFrame.lean ====
/-
  The kernel as printed, at the machine's own floats (or any others): every run ends, with the five argument
  arrays as they were.  Nothing is said of the result, so the output block and the scratch are left at any contents.
-/
module

public import proofs.«01_k».proof.Proof.Gen.Kernel.Frame
public import proofs.«01_k».proof.Proof.Gen.Kernel.Skeleton
public import Idealize.ShloMosaic.Lib.WholeRead

@[expose] public section

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

variable {F : FTy → Type} [FloatOps F]

local notation "𝕄" => MT nD τ sig Unit (Elt F) ℕ (UR sig nD τ) ℕ

/-- A buffer held at raw contents is held at the contents they read. -/
theorem held_as_read (c : Dev nD) {s : Shape} {e : EltTy} (M : Memref sig .tc .vmem s e)
    (f : M.view.ty.Contents (Elt F)) :
    ((M.view.loc (c : Thread nD τ) ↦[M.view.set]{fullShare} f) : sProp 𝕄)
      ⊢ iprop(∃ X, ∃ g, ⌜M.view.read (Elt F) g = X⌝ ∗ (M.view.loc (c : Thread nD τ) ↦[M.view.set]{fullShare} g)) := by
  iintro H; iexists (M.view.read (Elt F) f); iexists f; isplitr
  · ipureintro; rfl
  iexact H

/-- The body at any point keeps the five input blocks; the output block and the scratch end at some contents. -/
theorem body_keeps (c : Dev nD) (E : Set ℕ) (i : grid0.Coords)
    (M0 : Memref sig .tc .vmem S8x784 .f32) (h0 : M0.IsWhole) (M1 : Memref sig .tc .vmem S28x2048 .f32) (h1 : M1.IsWhole)
    (M2 : Memref sig .tc .vmem S28x2048 .f32) (h2 : M2.IsWhole) (M3 : Memref sig .tc .vmem S256x2048 .f32) (h3 : M3.IsWhole)
    (M4 : Memref sig .tc .vmem S10x2048 .f32) (h4 : M4.IsWhole) (M5 : Memref sig .tc .vmem S8x10 .f32) (h5 : M5.IsWhole)
    (M6 : Memref sig .tc .vmem S2048x784 .bf16) (h6 : M6.IsWhole)
    (X0 : S8x784.Idx → Elt F .f32) (X1 X2 : S28x2048.Idx → Elt F .f32) (X3 : S256x2048.Idx → Elt F .f32)
    (X4 : S10x2048.Idx → Elt F .f32) (K : PUnit.{1} → sProp 𝕄) :
    (iprop((owns (c : Thread nD τ) M0 fullShare X0 ∗ owns (c : Thread nD τ) M1 fullShare X1
            ∗ owns (c : Thread nD τ) M2 fullShare X2 ∗ owns (c : Thread nD τ) M3 fullShare X3
            ∗ owns (c : Thread nD τ) M4 fullShare X4 ∗ (∃ X, owns (c : Thread nD τ) M5 fullShare X)
            ∗ (∃ X, owns (c : Thread nD τ) M6 fullShare X))
          ∗ (iprop(owns (c : Thread nD τ) M0 fullShare X0 ∗ owns (c : Thread nD τ) M1 fullShare X1
            ∗ owns (c : Thread nD τ) M2 fullShare X2 ∗ owns (c : Thread nD τ) M3 fullShare X3
            ∗ owns (c : Thread nD τ) M4 fullShare X4 ∗ (∃ X, owns (c : Thread nD τ) M5 fullShare X)
            ∗ (∃ X, owns (c : Thread nD τ) M6 fullShare X)) -∗ K ⟨⟩)) : sProp 𝕄)
      ⊢ wp frame (wpE (defs₀ (F := F)) Variants.none c none) E
          (cc0__body i M0 h0 M1 h1 M2 h2 M3 h3 M4 h4 M5 h5 M6 h6) K := by
  simp only [cc0__body_eq_skeleton]; unfold cc0__body_skel
  simp only [k0_part1_eq_skeleton]; unfold k0_part1_skel
  unfold owns
  iintro ⟨⟨⟨%f0, %hf0, H0⟩, ⟨%f1, %hf1, H1⟩, ⟨%f2, %hf2, H2⟩, ⟨%f3, %hf3, H3⟩, ⟨%f4, %hf4, H4⟩, ⟨%X5, %f5, -, H5⟩, ⟨%X6, %f6, -, H6⟩⟩, Hk⟩
  sl_exec
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iapply (held_as_read c M5 _); iexact H5
  iapply (held_as_read c M6 _); iexact H6

variable (m : (ℓ : Loc nD τ sig) → Buf (Elt F) ℓ) (ρ : Dev nD → PrngReg)

/-- What each input's staging buffer holds after the body: its block, filled out with zeros past the array's end. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, _⟩ => win0_4.fill (grid0.coords t) (fun _ => Scalar.ofBits .f32 0#32) (iblk m c 4 t)
    | ⟨5, _⟩ => fun _ => Scalar.ofBits .f32 0#32
  Φ _ := Pipeline.ΦA spec0 c
  q _ := fullShare
  owed _ := 0

/-- The output window, of which nothing is claimed. -/
def forgotten (w : Fin 6) : Bool := w == 5

/-- The image block is whole in its buffer at every point. -/
theorem before_0 (c : Dev nD) (t : Fin cfg0.N) (d) : (dats m 0 c).before (0 : Fin 6) t d = iblk m c 0 t :=
  before0_0_of m (dats m 0 c) rfl (fun _ => rfl) t d
/-- A buffer fetched at the point holds its block on the part inside the array, anything past the array's end. -/
theorem before_fetched (c : Dev nD) (w : Fin cfg0.W) (t : Fin cfg0.N) (hf : (cfg0.win w).fetch t = true) (d) :
    (dats m 0 c).before w t d = (cfg0.win w).fill (cfg0.grid.coords t) d (iblk m c w t) := by
  unfold Dat.before; rw [if_pos hf]; rfl

/-- A buffer that holds a block filled out by anything is handed back as the block's part inside the array. -/
theorem refilled (c : Dev nD) (w : Fin cfg0.W) (t : Fin cfg0.N)
    (x : ((cfg0.win w).xblock (cfg0.grid.coords t)).Idx → Elt F (cfg0.win w).elt) (d z) :
    (owns (c : Thread nD τ) ((cfg0.win w).stage (cfg0.slots t w)) fullShare ((cfg0.win w).fill (cfg0.grid.coords t) d x) : sProp 𝕄)
      ⊢ iprop(∃ d, owns (c : Thread nD τ) ((cfg0.win w).stage (cfg0.slots t w)) fullShare
          ((cfg0.win w).fill (cfg0.grid.coords t) d ((cfg0.win w).cut (cfg0.grid.coords t) ((cfg0.win w).fill (cfg0.grid.coords t) z x)))) := by
  iintro H; iexists d; rw [Window.cut_fill]; iexact H

/-- The region's label at a point is the kernel's body there. -/
theorem defs₀_row (t : Fin cfg0.N) :
    defs₀ (F := F) .tc cfg0.body (cfg0.bodyArgs t (cfg0.slots t)) = bodyAt0 t := by
  unfold defs₀; rw [Defs.onTc_tc]

/-- At every point the body runs and hands back every input buffer as it was; of the output buffer nothing is said. -/
theorem body_obligation (c : Dev nD) :
    BodyObligationLoose (dats m 0 c) (defs₀ (F := F)) Variants.none () Set.univ forgotten := fun t => by
  rw [bigSep_W0, bigSep_W0, defs₀_row]
  simp only
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl]
  unfold Pipeline.ΦA
  rw [scopedRest0_eq]
  simp only [show forgotten 0 = false from rfl, show forgotten 1 = false from rfl, show forgotten 2 = false from rfl,
    show forgotten 3 = false from rfl, show forgotten 4 = false from rfl, show forgotten 5 = true from rfl]
  iintro ⟨⟨⟨%f, HS⟩, HR⟩, Ho, ⟨%d0, H0⟩, ⟨%d1, H1⟩, ⟨%d2, H2⟩, ⟨%d3, H3⟩, ⟨%d4, H4⟩, H5⟩
  rw [before_0 m c t d0, before_fetched m c 1 t (fetch0_1 t), before_fetched m c 2 t (fetch0_2 t),
    before_fetched m c 3 t (fetch0_3 t), before_fetched m c 4 t (fetch0_4 t)]
  iapply (body_keeps (F := F) c Set.univ (grid0.coords t) _ _ _ _ _ _ _ _ _ _ _ _ (Memref.whole cc0_scratch0) _
    (iblk m c 0 t) (win0_1.fill (grid0.coords t) d1 (iblk m c 1 t)) (win0_2.fill (grid0.coords t) d2 (iblk m c 2 t))
    (win0_3.fill (grid0.coords t) d3 (iblk m c 3 t)) (win0_4.fill (grid0.coords t) d4 (iblk m c 4 t)) _)
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    simp only [owns_whole_eq]
    iexists f; iexists f; isplitr; · ipureintro; rfl
    iexact HS
  iintro ⟨H0, H1, H2, H3, H4, H5, HS⟩
  isplitl [HS HR]
  · isplitl [HS]
    · simp only [owns_whole_eq]
      icases HS with ⟨%X, %f', -, HS⟩
      iexists f'; iexact HS
    iexact HR
  isplitl [Ho]; · iexact Ho
  isplitl [H0]; · iexact H0
  isplitl [H1]; · iapply (refilled c 1 t (iblk m c 1 t) d1 _); iexact H1
  isplitl [H2]; · iapply (refilled c 2 t (iblk m c 2 t) d2 _); iexact H2
  isplitl [H3]; · iapply (refilled c 3 t (iblk m c 3 t) d3 _); iexact H3
  isplitl [H4]; · iapply (refilled c 4 t (iblk m c 4 t) d4 _); iexact H4
  iexact H5

set_option backward.isDefEq.respectTransparency.types false in
/-- Every run ends, each array of the pipeline that is not the output and each other buffer at its contents on
    entry, and every semaphore counter at zero. -/
theorem run_main : θ_run defs (onTc (τ := τ) (main (F := F))) (s₀ m ρ)
    (fun r => RDat.FramePost cfg0 (fun c => (dats m 0 c).toRForget forgotten) (V m) r ∧ r.2.sem = fun _ => 0) :=
  Pipeline.θ_run_frame_forget cfgs (dats m) (0 : Fin 1) launch0 defs₀ Variants.none forgotten m ρ main
    (hbody := body_obligation m) (hshare := fun c => (dats m 0 c).share_full fun _ => rfl)
    (howed := fun _ _ => rfl) (V := V m) (hmain := hmain m Variants.none) (hA := fun _ _ => rfl) (hΦ := fun _ _ => rfl)
    (Q' := fun r => RDat.FramePost cfg0 (fun c => (dats m 0 c).toRForget forgotten) (V m) r ∧ r.2.sem = fun _ => 0)

/-- Every run ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
        (h.1.arr_in c 1 rfl).trans (V_main_arg1 m c), (h.1.arr_in c 2 rfl).trans (V_main_arg2 m c),
        (h.1.arr_in c 3 rfl).trans (V_main_arg3 m c), (h.1.arr_in c 4 rfl).trans (V_main_arg4 m c)⟩, h.2⟩)
    (run_main m ρ)

end Cert.KernelFrame
-- ==== Proof.Classifier.lean ====
/-
  The classifier's arithmetic over the extended reals, apart from any program: a pixel's grey level, a pixel's
  position sign, and the two ways of bundling the levels of an image into one component of its hypervector.
-/
module

public import Idealize.ShloMosaic.PureOps.Ideal.Laws

@[expose] public section

noncomputable section

namespace Cert.Classifier

open Idealize.ShloMosaic

/-- The hard sign: one above zero, minus one elsewhere. -/
def sgn (s : EReal) : EReal := if 0 < s then 1 else -1

/-- The grey level of a pixel: its value scaled to 255, rounded half to even, clipped to 0 … 255, as a 32-bit word. -/
def level (v : EReal) : BitVec 32 :=
  Ideal.fptosi 32 (min 255 (max 0 (Ideal.liftRound Ideal.roundHalfEven (v * 255))))

/-- One where the word is the number `l`, zero elsewhere. -/
def hot (w : BitVec 32) (l : ℕ) : EReal := if w = BitVec.ofNat 32 l then 1 else 0

/-- The sign pixel `p` is bound with, from one component of the column and the row hypervectors. -/
def position (px py : Fin 28 → EReal) (p : Fin 784) : EReal :=
  sgn (px ⟨p.val % 28, by omega⟩ + py ⟨p.val / 28, by omega⟩)

/-- A component bundled level by level: the signs of the pixels at each level are added, then weighted by the level. -/
def counted (w : Fin 784 → BitVec 32) (px py : Fin 28 → EReal) (lev : Fin 256 → EReal) : EReal :=
  ∑ l : Fin 256, (∑ p : Fin 784, hot (w p) l.val * position px py p) * lev l

/-- A component bundled pixel by pixel: each pixel's sign times the component of its level, added up. -/
def bundled (w : Fin 784 → BitVec 32) (hw : ∀ p, (w p).toNat < 256) (px py : Fin 28 → EReal) (lev : Fin 256 → EReal) : EReal :=
  ∑ p : Fin 784, position px py p * lev ⟨(w p).toNat, hw p⟩

/-- A sign is a real number. -/
theorem sgn_real (s : EReal) : ∃ r : ℝ, sgn s = (r : EReal) := by
  unfold sgn; split
  · exact ⟨1, rfl⟩
  · exact ⟨-1, rfl⟩

/-- An extended real between 0 and 255 is read as a word below 256. -/
theorem fptosi_toNat_lt (y : EReal) (h0 : 0 ≤ y) (h1 : y ≤ 255) : (Ideal.fptosi 32 y).toNat < 256 := by
  induction y with
  | bot => exact absurd h0 (by simp)
  | top => exact absurd (top_le_iff.mp h1) (EReal.coe_ne_top 255)
  | coe r =>
    have h0' : (0 : ℝ) ≤ r := by exact_mod_cast h0
    have h1' : r ≤ 255 := EReal.coe_le_coe_iff.mp h1
    have hf0 : 0 ≤ ⌊r⌋ := Int.floor_nonneg.mpr h0'
    have hf1 : ⌊r⌋ ≤ 255 := by
      have : ⌊r⌋ ≤ ⌊(255 : ℝ)⌋ := Int.floor_le_floor h1'
      simpa using this
    show (BitVec.ofInt 32 (max (-((2 ^ (32 - 1) : ℕ) : ℤ)) (min (((2 ^ (32 - 1) : ℕ) : ℤ) - 1) (if 0 ≤ r then ⌊r⌋ else ⌈r⌉)))).toNat < 256
    rw [if_pos h0']
    rw [show max (-((2 ^ (32 - 1) : ℕ) : ℤ)) (min (((2 ^ (32 - 1) : ℕ) : ℤ) - 1) ⌊r⌋) = ⌊r⌋ by omega, BitVec.toNat_ofInt]
    omega

/-- A grey level is below 256. -/
theorem level_lt (v : EReal) : (level v).toNat < 256 :=
  fptosi_toNat_lt _ (le_min (by norm_num) (le_max_left _ _)) (min_le_left _ _)

/-- A finite sum of reals is the same sum in the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- For finite levels the two bundlings are one: each pixel has exactly one level, and a finite product distributes
    over the sum of the pixels' signs. -/
theorem counted_eq_bundled (w : Fin 784 → BitVec 32) (hw : ∀ p, (w p).toNat < 256) (px py : Fin 28 → EReal)
    (lev : Fin 256 → EReal) (hlev : ∀ l, ∃ r : ℝ, lev l = (r : EReal)) :
    counted w px py lev = bundled w hw px py lev := by
  choose lr hl using hlev
  choose q hq using fun p : Fin 784 => sgn_real (px ⟨p.val % 28, by omega⟩ + py ⟨p.val / 28, by omega⟩)
  have hpos : ∀ p, position px py p = (q p : EReal) := hq
  have hhot : ∀ (p : Fin 784) (l : Fin 256), hot (w p) l.val = ((if (⟨(w p).toNat, hw p⟩ : Fin 256) = l then 1 else 0 : ℝ) : EReal) := by
    intro p l
    have : (w p = BitVec.ofNat 32 l.val) ↔ ((⟨(w p).toNat, hw p⟩ : Fin 256) = l) := by
      rw [← BitVec.toNat_inj, BitVec.toNat_ofNat, Fin.ext_iff, Nat.mod_eq_of_lt (by have := l.isLt; omega)]
    unfold hot; simp only [this]; split <;> simp
  unfold counted bundled
  simp only [hpos, hhot, hl]
  simp only [← EReal.coe_mul, ← coe_sum]
  refine congrArg _ ?_
  simp only [Finset.sum_mul, ite_mul, one_mul, zero_mul]
  rw [Finset.sum_comm]
  exact Finset.sum_congr rfl fun p _ => Fintype.sum_ite_eq _ _

end Cert.Classifier
-- ==== Proof.Words.lean ====
/-
  What the words and the comparisons the two programs are written with mean over the extended reals: the constants,
  the clipped and rounded pixel, the hard sign and the one-hot entry.
-/
module

public import proofs.«01_k».proof.Proof.Classifier
public import Idealize.ShloMosaic.Lib.IdealHost
public import Idealize.ShloMosaic.Lib.WordCmp

@[expose] public section

noncomputable section

namespace Cert.Words

open Cert.Classifier
open Idealize.ShloMosaic

/-- The f32 word `0xBF800000` is minus one. -/
theorem neg_one_f32 : Ideal.ofBits .f32 0xBF800000#32 = -1 := by
  rw [show (-1 : EReal) = ((-1 : ℝ) : EReal) by rfl]
  simp [Ideal.ofBits, Ideal.ieee, -EReal.coe_mul, -EReal.coe_neg]; norm_num

/-- The bf16 word `0xBF80` is minus one. -/
theorem neg_one_bf16 : Ideal.ofBits .bf16 0xBF80#16 = -1 := Ideal.ofBits_neg_one_bf16

/-- The f32 word `0x437F0000` is 255. -/
theorem f32_255 : Ideal.ofBits .f32 0x437F0000#32 = 255 := by
  rw [show (255 : EReal) = ((255 : ℝ) : EReal) by rfl]
  simp [Ideal.ofBits, Ideal.ieee, -EReal.coe_mul]; norm_num

/-- A choice by a decided condition. -/
theorem select_decide {α : Type} (p : Prop) [Decidable p] (a b : α) :
    Scalar.select (BitVec.ofBool (decide p)) a b = if p then a else b := by
  unfold Scalar.select; by_cases h : p <;> simp [h]

/-- The pixel scaled, rounded, clipped and converted as both programs write it is its grey level. -/
theorem level_eq (v : EReal) :
    Ideal.fptosi 32 (min (((255#32).toInt : ℝ) : EReal) (max (((0#32).toInt : ℝ) : EReal)
      (Ideal.liftRound Ideal.roundHalfEven (v * Ideal.ofBits .f32 0x437F0000#32)))) = level v := by
  rw [f32_255, show (255#32).toInt = 255 by decide, show (0#32).toInt = 0 by decide]
  unfold level
  norm_cast

/-- An equality of words, widened and converted to a float, is the one-hot entry. -/
theorem hot_eq (w : BitVec 32) (l : ℕ) :
    ((((IntOp.cmpi .eq w (BitVec.ofNat 32 l)).setWidth 32).toInt : ℝ) : EReal) = hot w l := by
  unfold hot IntOp.cmpi
  by_cases h : w = BitVec.ofNat 32 l
  · rw [if_pos h, beq_iff_eq.mpr h, show ((BitVec.ofBool true).setWidth 32).toInt = 1 by decide]; norm_cast
  · rw [if_neg h, beq_eq_false_iff_ne.mpr h, show ((BitVec.ofBool false).setWidth 32).toInt = 0 by decide]; norm_cast

/-- Column `j` of a block of 2048 at block `i < 5`, compared with 10000 as 32-bit words: nothing wraps. -/
theorem column_lt (i j : ℕ) (hi : i < 5) (hj : j < 2048) :
    IntOp.cmpi .slt (IntOp.addi (IntOp.muli (BitVec.ofNat 32 i) 2048#32) (BitVec.ofNat 32 j)) 10000#32
      = BitVec.ofBool (decide (2048 * i + j < 10000)) := by
  unfold IntOp.addi IntOp.muli
  rw [show BitVec.ofNat 32 i * 2048#32 + BitVec.ofNat 32 j = BitVec.ofNat 32 (2048 * i + j) by
    rw [← BitVec.ofNat_mul, ← BitVec.ofNat_add, Nat.mul_comm]]
  exact WordCmp.cmpi_slt_ofNat (by omega) (by omega)

end Cert.Words
-- ==== Proof.IdealBody.lean ====
/-
  What one grid point of the idealized kernel does to its buffers, for any float values: at the first point it
  fills the scratch with the one-hot rows and clears the output block, at a later point it keeps both, and at
  every point it adds the point's product into the output block.
-/
module

public import proofs.«01_k».proof.Proof.Gen.KernelIdeal.Frame
public import proofs.«01_k».proof.Proof.Gen.KernelIdeal.Skeleton
public import Idealize.ShloMosaic.Lib.WholeRead
public import Idealize.ShloMosaic.Lib.VecWindow

@[expose] public section

noncomputable section

namespace Cert.IdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the kernel's two branches: the grid coordinate is zero, as the program computes it. -/
abbrev isFirst (i : grid0.Coords) : BitVec 1 :=
  Scalar.cmpi .ne (Scalar.extui (Scalar.cmpi .eq (BitVec.ofNat 32 (i 0).val) 0#32) : BitVec 32) 0#32

/-- The number one as the kernel writes it. -/
abbrev one32 : F .f32 := Scalar.ofBits .f32 0x3F800000#32

/-- The output block after a point that found `o` in it and `S` in the scratch. -/
abbrev step (i : grid0.Coords) (S : Vec F S2048x784 .bf16) (x1 x2 : Vec F S28x2048 .f32) (x3 : Vec F S256x2048 .f32)
    (x4 : Vec F S10x2048 .f32) (o : Vec F S8x10 .f32) : FVec F S8x10 .f32 :=
  k0_pay2 (k0_pay3 i) (k0_pay5 i S x1 x2 x3) one32 x4 o

variable (c : Dev nD) (E : Set ℕ) (i : grid0.Coords)
  (M0 : Memref sig .tc .vmem S8x784 .f32) (h0 : M0.IsWhole) (M1 : Memref sig .tc .vmem S28x2048 .f32) (h1 : M1.IsWhole)
  (M2 : Memref sig .tc .vmem S28x2048 .f32) (h2 : M2.IsWhole) (M3 : Memref sig .tc .vmem S256x2048 .f32) (h3 : M3.IsWhole)
  (M4 : Memref sig .tc .vmem S10x2048 .f32) (h4 : M4.IsWhole) (M5 : Memref sig .tc .vmem S8x10 .f32) (h5 : M5.IsWhole)
  (M6 : Memref sig .tc .vmem S2048x784 .bf16) (h6 : M6.IsWhole)
  (X0 : S8x784.Idx → Elt F .f32) (X1 X2 : S28x2048.Idx → Elt F .f32) (X3 : S256x2048.Idx → Elt F .f32)
  (X4 : S10x2048.Idx → Elt F .f32) (X5 : S8x10.Idx → Elt F .f32) (X6 : S2048x784.Idx → Elt F .bf16)

/-- The six staging buffers and the scratch, each held whole at the contents named. -/
def held : sProp 𝕄 :=
  iprop(owns (c : Thread nD τ) M0 fullShare X0 ∗ owns (c : Thread nD τ) M1 fullShare X1
    ∗ owns (c : Thread nD τ) M2 fullShare X2 ∗ owns (c : Thread nD τ) M3 fullShare X3
    ∗ owns (c : Thread nD τ) M4 fullShare X4 ∗ owns (c : Thread nD τ) M5 fullShare X5
    ∗ owns (c : Thread nD τ) M6 fullShare X6)

/-- At a later point the scratch is kept and the output block takes one step. -/
theorem body_later (K : PUnit.{1} → sProp 𝕄) (hc : ¬ isFirst i = 1#1) :
    iprop(held c M0 M1 M2 M3 M4 M5 M6 X0 X1 X2 X3 X4 X5 X6
        ∗ (held c M0 M1 M2 M3 M4 M5 M6 X0 X1 X2 X3 X4 (step i X6 X1 X2 X3 X4 X5) X6 -∗ K ⟨⟩))
      ⊢ wp frame (wpE (defs₀ (F := F)) Variants.none c none) E
          (cc0__body i M0 h0 M1 h1 M2 h2 M3 h3 M4 h4 M5 h5 M6 h6) K := by
  simp only [cc0__body_eq_skeleton]; unfold cc0__body_skel
  simp only [k0_part1_eq_skeleton]; unfold k0_part1_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := h0.eq_unread hf0; obtain rfl := h1.eq_unread hf1; obtain rfl := h2.eq_unread hf2
  obtain rfl := h3.eq_unread hf3; obtain rfl := h4.eq_unread hf4; obtain rfl := h5.eq_unread hf5; obtain rfl := h6.eq_unread hf6
  sl_exec (disch := sl_exact hc)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]
  · iexists _; isplitr
    rotate_left
    · iexact H5
    · ipureintro
      refine (View.read_writes_full M5.view _ _ _ _).trans ?_
      have r1 := (View.readAt_full M1.view (h1.unread X1) inb_S28x2048_S28x2048_0_0).trans hf1
      have r2 := (View.readAt_full M2.view (h2.unread X2) inb_S28x2048_S28x2048_0_0).trans hf2
      have r3 := (View.readAt_full M3.view (h3.unread X3) inb_S256x2048_S256x2048_0_0).trans hf3
      have r4 := (View.readAt_full M4.view (h4.unread X4) inb_S10x2048_S10x2048_0_0).trans hf4
      have r5 := (View.readAt_full M5.view (h5.unread X5) inb_S8x10_S8x10_0_0).trans hf5
      have r6 := (View.readAt_full M6.view (h6.unread X6) inb_S2048x784_S2048x784_0_0).trans hf6
      rw [show step i X6 X1 X2 X3 X4 X5 = step i _ _ _ _ _ _ from
        congr (congr (congr (congr (congr (congrArg (step i) r6.symm) r1.symm) r2.symm) r3.symm) r4.symm) r5.symm]
      rfl
  iexists _; isplitr; (· ipureintro; exact hf6); iexact H6

set_option maxHeartbeats 1000000 in
/-- At the first point the scratch is filled from the pixels and the output block takes one step from zeros. -/
theorem body_first (K : PUnit.{1} → sProp 𝕄) (hc : isFirst i = 1#1) :
    iprop(held c M0 M1 M2 M3 M4 M5 M6 X0 X1 X2 X3 X4 X5 X6
        ∗ (held c M0 M1 M2 M3 M4 M5 M6 X0 X1 X2 X3 X4 (step i (k0_pay4 X0) X1 X2 X3 X4 k0_pay1) (k0_pay4 X0) -∗ K ⟨⟩))
      ⊢ wp frame (wpE (defs₀ (F := F)) Variants.none c none) E
          (cc0__body i M0 h0 M1 h1 M2 h2 M3 h3 M4 h4 M5 h5 M6 h6) K := by
  simp only [cc0__body_eq_skeleton]; unfold cc0__body_skel
  simp only [k0_part1_eq_skeleton]; unfold k0_part1_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := h0.eq_unread hf0; obtain rfl := h1.eq_unread hf1; obtain rfl := h2.eq_unread hf2
  obtain rfl := h3.eq_unread hf3; obtain rfl := h4.eq_unread hf4; obtain rfl := h5.eq_unread hf5; obtain rfl := h6.eq_unread hf6
  sl_exec (disch := sl_exact hc)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]
  · iexists _; isplitr
    rotate_left
    · iexact H5
    · ipureintro
      refine (View.read_writes_full M5.view _ _ _ _).trans ?_
      have r1 := (View.readAt_full M1.view (h1.unread X1) inb_S28x2048_S28x2048_0_0).trans hf1
      have r2 := (View.readAt_full M2.view (h2.unread X2) inb_S28x2048_S28x2048_0_0).trans hf2
      have r3 := (View.readAt_full M3.view (h3.unread X3) inb_S256x2048_S256x2048_0_0).trans hf3
      have r4 := (View.readAt_full M4.view (h4.unread X4) inb_S10x2048_S10x2048_0_0).trans hf4
      have r0 := (View.readAt_full M0.view (h0.unread X0) inb_S8x784_S8x784_0_0).trans hf0
      have r5 : body_first.sl.v50 (F := F) c M5 = k0_pay1 := View.readCov_full M5.view _ _ _ _
      have r6 : body_first.sl.v9 c M0 h0 M6 X0 = k0_pay4 X0 :=
        (View.readCov_full M6.view _ _ _ _).trans (congrArg k0_pay4 r0)
      rw [show step i (k0_pay4 X0) X1 X2 X3 X4 k0_pay1 = step i _ _ _ _ _ _ from
        congr (congr (congr (congr (congr (congrArg (step i) r6.symm) r1.symm) r2.symm) r3.symm) r4.symm) r5.symm]
      rfl
  iexists _; isplitr
  rotate_left
  · iexact H6
  · ipureintro
    exact (View.read_writes_full M6.view _ _ _ _).trans
      (congrArg k0_pay4 ((View.readAt_full M0.view (h0.unread X0) inb_S8x784_S8x784_0_0).trans hf0))

end Cert.IdealBody
-- ==== Proof.Block.lean ====
/-
  One grid point of the idealized kernel over the extended reals: the one-hot rows, the mask of the array's columns,
  and the block the point adds into the logits, each read at an index.
-/
module

public import proofs.«01_k».proof.Proof.Words
public import proofs.«01_k».proof.Proof.IdealBody
public import Idealize.ShloMosaic.Lib.Pointwise

@[expose] public section

noncomputable section

namespace Cert.Block

open Cert.KernelIdeal Cert.KernelIdeal.Gen Cert.Classifier
open Idealize.ShloMosaic

/-- Column `j` of the block at coordinate `i` is live exactly when column `2048 i + j` lies inside the arrays. -/
theorem mask_apply (i : grid0.Coords) (j : Fin 2048) :
    k0_pay3 i (ix2 0 j) = BitVec.ofBool (decide (2048 * (i 0).val + j.val < 10000)) := by
  have hi : (i 0).val < 5 := (i 0).isLt
  have hj := j.isLt
  pointwise [k0_pay3]
  exact Words.column_lt _ _ hi hj

/-- Row `256 b + l` of the one-hot scratch holds, at pixel `p`, whether pixel `p` of image `b` has level `l`. -/
theorem onehot_apply (x : Vec Ideal S8x784 .f32) (b : Fin 8) (l : Fin 256) (p : Fin 784) :
    k0_pay4 (F := Ideal) x (ix2 ⟨b.val * 256 + l.val, by omega⟩ p) = hot (level (x (ix2 b p))) l.val := by
  pointwise [k0_pay4]
  rw [← Words.hot_eq, ← Words.level_eq]
  rfl

/-- The bundle of column `j` for image `b`, as the body computes it from its blocks, is above zero or not. -/
theorem positive_apply (i : grid0.Coords) (x0 : Vec Ideal S8x784 .f32) (x1 x2 : Vec Ideal S28x2048 .f32)
    (x3 : Vec Ideal S256x2048 .f32) (b : Fin 8) (j : Fin 2048) (hj : 2048 * (i 0).val + j.val < 10000) :
    k0_pay5 (F := Ideal) i (k0_pay4 x0) x1 x2 x3 (ix2 b j)
      = BitVec.ofBool (decide (0 < counted (fun p => level (x0 (ix2 b p))) (fun r => x1 (ix2 r j)) (fun r => x2 (ix2 r j))
          fun l => x3 (ix2 l j))) := by
  pointwise [k0_pay5]
  simp only [mask_apply, onehot_apply]
  simp only [Words.select_decide, hj, if_true, Words.neg_one_bf16]
  unfold counted position sgn
  simp only [add_comm (x1 _)]

/-- What the point adds at image `b`, class `n`: over the block's live columns, the bundle's sign times the weight. -/
theorem step_apply (i : grid0.Coords) (x0 : Vec Ideal S8x784 .f32) (x1 x2 : Vec Ideal S28x2048 .f32)
    (x3 : Vec Ideal S256x2048 .f32) (x4 : Vec Ideal S10x2048 .f32) (o : Vec Ideal S8x10 .f32) (b : Fin 8) (n : Fin 10) :
    IdealBody.step (F := Ideal) i (k0_pay4 x0) x1 x2 x3 x4 o (ix2 b n)
      = o (ix2 b n) + ∑ j : Fin 2048, if 2048 * (i 0).val + j.val < 10000 then
          sgn (counted (fun p => level (x0 (ix2 b p))) (fun r => x1 (ix2 r j)) (fun r => x2 (ix2 r j)) fun l => x3 (ix2 l j))
            * x4 (ix2 n j) else 0 := by
  pointwise [k0_pay2]
  simp only [mask_apply]
  refine congrArg _ (Finset.sum_congr rfl fun j _ => ?_)
  by_cases h : 2048 * (i 0).val + j.val < 10000
  · rw [positive_apply i x0 x1 x2 x3 b j h]
    simp only [Words.select_decide, Words.neg_one_f32]
    rfl
  · simp only [h, decide_false, if_false]
    rfl

end Cert.Block
-- ==== Proof.Blocks.lean ====
/-
  What the idealized kernel's staging buffers hold, read back to the arrays at launch.  At grid point `t` column `j`
  of an input block is column `2048 t + j` of its array as long as that column lies inside the array, whatever the
  buffer holds past the array's end; the image block is the whole flattened batch.
-/
module

public import proofs.«01_k».proof.Proof.Gen.KernelIdeal.Frame
public import Idealize.ShloMosaic.Lib.Pointwise
public import Idealize.ShloMosaic.Lib.Pipeline.Value

@[expose] public section

noncomputable section

namespace Cert.Blocks

open Cert.KernelIdeal Cert.KernelIdeal.Gen
open Idealize.ShloMosaic Idealize.ShloMosaic.TcCoe
open Idealize.ShloMosaic.Pipeline (Window)

variable {F : FTy → Type} [FloatOps F]

/-- A buffer filled with a window's block holds, at an index the transfer moves, the array's element at that index
    shifted by the block's offset. -/
theorem fill_read (w : Window sig grid0) (t : Fin grid0.N) (d : w.block.Idx → Elt F w.elt)
    (f : w.arr.view.ty.Contents (Elt F)) (j : w.block.Idx) (k : w.shape.Idx)
    (hm : ∀ a, (j a).val < w.xsize (grid0.coords t) a)
    (hk : ∀ a, (k a).val = w.kind.off (w.index t a) (w.size a) + (j a).val) :
    w.fill (grid0.coords t) d ((w.blk t).view.read (Elt F) f) j = w.arr.view.read (Elt F) f k := by
  unfold Window.fill
  rw [dif_pos ((w.moved_iff _ j).mpr hm)]
  show w.arr.view.read (Elt F) f ((w.rect t).emb _) = _
  refine congrArg _ (funext fun a => Fin.ext ?_)
  rw [Window.rect_emb_val_off, hk a]

/-- The grid's one coordinate at point `t` is `t`. -/
theorem coord (t : Fin cfg0.N) : ((grid0.coords t) 0).val = t.val := by
  rcases fin_N0 t with rfl | rfl | rfl | rfl | rfl <;> decide

/-- On the columns' axis the block at `t` starts at column `2048 t` and is cut at column 10000. -/
theorem columns (t : Fin cfg0.N) : (win0_1.index t 1, win0_1.xsize (grid0.coords t) 1) = (t.val, min 2048 (10000 - 2048 * t.val)) := by
  rcases fin_N0 t with rfl | rfl | rfl | rfl | rfl <;> decide +kernel

/-- A column inside the array is one the transfer at `t` moves. -/
theorem live (t : Fin cfg0.N) (j : Fin 2048) (h : 2048 * t.val + j.val < 10000) :
    j.val < win0_1.xsize (grid0.coords t) 1 :=
  lt_of_lt_of_eq (show j.val < min 2048 (10000 - 2048 * t.val) by omega) (Prod.ext_iff.mp (columns t)).2.symm

/-- Its column in the array is the block's first column plus its own. -/
theorem start (t : Fin cfg0.N) (j : Fin 2048) : 2048 * t.val + j.val = win0_1.index t 1 * 2048 + j.val := by
  rw [show win0_1.index t 1 = t.val from (Prod.ext_iff.mp (columns t)).1]; omega

/-- Its row in the array is its own. -/
theorem row {R : ℕ} (r : Fin R) : r.val = 0 * R + r.val := by omega

variable (m : (ℓ : Loc nD τ sig) → Buf (Elt F) ℓ) (c : Dev nD) (t : Fin cfg0.N)

section Columns

variable (j : Fin 2048) (h : 2048 * t.val + j.val < 10000)

/-- Column `j` of the block of the column positions. -/
theorem pos_x (d) (r : Fin 28) : win0_1.fill (grid0.coords t) d (iblk m c 1 t) (ix2 r j)
    = m ((c : Thread nD τ).loc main_arg1) (ix2 r ⟨2048 * t.val + j.val, h⟩) := by
  rw [← V_main_arg1 m c]
  exact fill_read win0_1 t d (V m c main_arg1) (ix2 r j) (ix2 r ⟨2048 * t.val + j.val, h⟩)
    (Fin.forall_fin_two.mpr ⟨r.isLt, live t j h⟩) (Fin.forall_fin_two.mpr ⟨row r, start t j⟩)

/-- Column `j` of the block of the row positions. -/
theorem pos_y (d) (r : Fin 28) : win0_2.fill (grid0.coords t) d (iblk m c 2 t) (ix2 r j)
    = m ((c : Thread nD τ).loc main_arg2) (ix2 r ⟨2048 * t.val + j.val, h⟩) := by
  rw [← V_main_arg2 m c]
  exact fill_read win0_2 t d (V m c main_arg2) (ix2 r j) (ix2 r ⟨2048 * t.val + j.val, h⟩)
    (Fin.forall_fin_two.mpr ⟨r.isLt, live t j h⟩) (Fin.forall_fin_two.mpr ⟨row r, start t j⟩)

/-- Column `j` of the block of the levels. -/
theorem levels (d) (r : Fin 256) : win0_3.fill (grid0.coords t) d (iblk m c 3 t) (ix2 r j)
    = m ((c : Thread nD τ).loc main_arg3) (ix2 r ⟨2048 * t.val + j.val, h⟩) := by
  rw [← V_main_arg3 m c]
  exact fill_read win0_3 t d (V m c main_arg3) (ix2 r j) (ix2 r ⟨2048 * t.val + j.val, h⟩)
    (Fin.forall_fin_two.mpr ⟨r.isLt, live t j h⟩) (Fin.forall_fin_two.mpr ⟨row r, start t j⟩)

/-- Column `j` of the block of the weights. -/
theorem weights (d) (r : Fin 10) : win0_4.fill (grid0.coords t) d (iblk m c 4 t) (ix2 r j)
    = m ((c : Thread nD τ).loc main_arg4) (ix2 r ⟨2048 * t.val + j.val, h⟩) := by
  rw [← V_main_arg4 m c]
  exact fill_read win0_4 t d (V m c main_arg4) (ix2 r j) (ix2 r ⟨2048 * t.val + j.val, h⟩)
    (Fin.forall_fin_two.mpr ⟨r.isLt, live t j h⟩) (Fin.forall_fin_two.mpr ⟨row r, start t j⟩)

end Columns

/-- The image block is the whole flattened batch at every point. -/
theorem image_block : iblk m c 0 t = V m c main_v0 := by
  funext i
  exact fill_read win0_0 t (fun _ => Scalar.ofBits .f32 0#32) (V m c main_v0) i i
    (Fin.forall_fin_two.mpr ⟨(i 0).isLt, (i 1).isLt⟩) (Fin.forall_fin_two.mpr ⟨row (R := 8) (i 0), row (R := 784) (i 1)⟩)

/-- The flattened batch is the batch reshaped. -/
theorem flattened : V m c main_v0
    = shapeCast S8x784 (m ((c : Thread nD τ).loc main_arg0)) shapeCasts_S8x28x28_S8x784 := by
  unfold V
  after_results
  rfl

/-- Pixel `p` of image `b` of the flattened batch is the pixel at row `p / 28`, column `p % 28` of the batch. -/
theorem image (b : Fin 8) (p : Fin 784) : V m c main_v0 (ix2 b p)
    = m ((c : Thread nD τ).loc main_arg0) (ix3 b ⟨p.val / 28, by omega⟩ ⟨p.val % 28, by omega⟩) := by
  rw [flattened]
  refine shapeCast_apply _ shapeCasts_S8x28x28_S8x784 _ _ ?_
  rw [Shape.rowMajor_val_three, Shape.rowMajor_val_two]
  show (b.val * 28 + p.val / 28) * 28 + p.val % 28 = b.val * 784 + p.val
  omega

end Cert.Blocks
-- ==== Proof.BlockSums.lean ====
/-
  A sum over 10000 terms taken 2048 at a time: five blocks, the last one filled out with zeros.
-/
module

public import proofs.«01_k».proof.Proof.Classifier

@[expose] public section

noncomputable section

namespace Cert.BlockSums

/-- The terms, continued by zeros. -/
def padded (f : Fin 10000 → EReal) (d : ℕ) : EReal := if h : d < 10000 then f ⟨d, h⟩ else 0

/-- The sum of the first `k` of them. -/
def upto (f : Fin 10000 → EReal) (k : ℕ) : EReal := ∑ d ∈ Finset.range k, padded f d

/-- Nothing is summed before the first block. -/
theorem upto_zero (f : Fin 10000 → EReal) : upto f (2048 * 0) = 0 := rfl

/-- One more block. -/
theorem upto_succ (f : Fin 10000 → EReal) (t : ℕ) :
    upto f (2048 * (t + 1)) = upto f (2048 * t) + ∑ j : Fin 2048, padded f (2048 * t + j.val) := by
  unfold upto
  rw [Nat.mul_succ, Finset.sum_range_add, Finset.sum_range fun j => padded f (2048 * t + j)]

/-- Five blocks hold every term. -/
theorem upto_five (f : Fin 10000 → EReal) : upto f (2048 * 5) = ∑ d : Fin 10000, f d := by
  unfold upto
  rw [show 2048 * 5 = 10000 + 240 from rfl, Finset.sum_range_add,
    Finset.sum_eq_zero (s := Finset.range 240) fun d _ => dif_neg (by omega), add_zero, Finset.sum_range]
  exact Finset.sum_congr rfl fun d _ => dif_pos d.isLt

end Cert.BlockSums
-- ==== Proof.Running.lean ====
/-
  The output block of the idealized kernel point by point: after `k` points it holds, for each image and class, the
  first `2048 k` of the classifier's products of a bundle's sign with a weight, summed.
-/
module

public import proofs.«01_k».proof.Proof.Block
public import proofs.«01_k».proof.Proof.Blocks
public import proofs.«01_k».proof.Proof.BlockSums

@[expose] public section

noncomputable section

namespace Cert.Running

open Cert.KernelIdeal Cert.KernelIdeal.Gen Cert.Classifier Cert.BlockSums
open Idealize.ShloMosaic Idealize.ShloMosaic.TcCoe

variable (m : (ℓ : Loc nD τ sig) → Buf (Elt Ideal) ℓ) (c : Dev nD)

/-- Component `d` of image `b`'s bundle, counted level by level, as the arrays at launch give it. -/
def bundle (b : Fin 8) (d : Fin 10000) : EReal :=
  counted (fun p => level (m ((c : Thread nD τ).loc main_arg0) (ix3 b ⟨p.val / 28, by omega⟩ ⟨p.val % 28, by omega⟩)))
    (fun r => m ((c : Thread nD τ).loc main_arg1) (ix2 r d)) (fun r => m ((c : Thread nD τ).loc main_arg2) (ix2 r d))
    fun l => m ((c : Thread nD τ).loc main_arg3) (ix2 l d)

/-- What component `d` adds to the logit of image `b`, class `n`. -/
def product (b : Fin 8) (n : Fin 10) (d : Fin 10000) : EReal :=
  sgn (bundle m c b d) * m ((c : Thread nD τ).loc main_arg4) (ix2 n d)

/-- The output block after `k` points. -/
def running (k : ℕ) : S8x10.Idx → EReal := fun i => upto (product m c (i 0) (i 1)) (2048 * k)

/-- The cleared output block is the running sum of no points. -/
theorem running_zero : (k0_pay1 : FVec Ideal S8x10 .f32) = running m c 0 := by
  funext i
  exact Ideal.ofBits_zero_f32

/-- One point takes the running sum one block further, whatever its buffers hold past the arrays' end. -/
theorem step_running (t : Fin cfg0.N) (d1 d2 d3 d4) :
    IdealBody.step (F := Ideal) (grid0.coords t) (k0_pay4 (V m c main_v0)) (win0_1.fill (grid0.coords t) d1 (iblk m c 1 t))
      (win0_2.fill (grid0.coords t) d2 (iblk m c 2 t)) (win0_3.fill (grid0.coords t) d3 (iblk m c 3 t))
      (win0_4.fill (grid0.coords t) d4 (iblk m c 4 t)) (running m c t.val) = running m c (t.val + 1) := by
  funext i
  obtain ⟨b, n, rfl⟩ : ∃ (b : Fin 8) (n : Fin 10), i = ix2 b n := ⟨i 0, i 1, by funext a; match a with | 0 => rfl | 1 => rfl⟩
  rw [Block.step_apply, Blocks.coord]
  refine Eq.trans (congrArg _ (Finset.sum_congr rfl fun j _ => ?_)) (upto_succ (product m c b n) t.val).symm
  unfold padded
  by_cases h : 2048 * t.val + j.val < 10000
  · rw [if_pos h, dif_pos h]
    simp only [Blocks.pos_x m c t j h, Blocks.pos_y m c t j h, Blocks.levels m c t j h, Blocks.weights m c t j h, Blocks.image m c]
    rfl
  · rw [if_neg h, dif_neg h]

/-- After the last point the block holds the whole sums. -/
theorem running_five (b : Fin 8) (n : Fin 10) : running m c 5 (ix2 b n) = ∑ d : Fin 10000, product m c b n d :=
  upto_five (product m c b n)

end Cert.Running
-- ==== Proof.IdealRun.lean ====
/-
  The run of the idealized kernel over the extended reals: from any memory with zero counters every execution ends,
  the result array holding the classifier's sums, the argument arrays as launched, every counter at zero.
-/
module

public import proofs.«01_k».proof.Proof.Running

@[expose] public section

noncomputable section

namespace Cert.IdealRun

open Cert.KernelIdeal Cert.KernelIdeal.Gen Cert.Running
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The one-hot rows of the batch, as the first point leaves them in the scratch. -/
abbrev rows (c : Dev nD) : S2048x784.Idx → Elt Ideal .bf16 := k0_pay4 (F := Ideal) (V m c main_v0)

/-- Between points: the scratch holds the one-hot rows once a point has run, and the generator register is somewhere. -/
def between (c : Dev nD) (k : ℕ) : sProp 𝕄 :=
  iprop((∃ S : S2048x784.Idx → Elt Ideal .bf16, ⌜k ≠ 0 → S = rows m c⌝ ∗ owns (c : Thread nD τ) (Memref.whole cc0_scratch0) fullShare S)
    ∗ ∃ r, prngReg c r)

/-- What each staging buffer holds after the body: an input its block, filled out with zeros past the array's end; the
    output the running sum. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => win0_4.fill (grid0.coords t) (fun _ => (0 : EReal)) (iblk m c 4 t)
    | ⟨5, _⟩ => running m c (t.val + 1)
  Φ t := between m c t.val
  q _ := fullShare
  owed _ := 0

/-- The image buffer holds the flattened batch at every point. -/
theorem before_image (c : Dev nD) (t : Fin cfg0.N) (d) : (dats m 0 c).before (0 : Fin 6) t d = V m c main_v0 :=
  (before0_0_of m (dats m 0 c) rfl (fun _ => rfl) t d).trans (Blocks.image_block m c t)

/-- A buffer fetched at the point holds its block on the part inside the array, anything past the array's end. -/
theorem before_fetched (c : Dev nD) (w : Fin cfg0.W) (t : Fin cfg0.N) (hf : (cfg0.win w).fetch t = true) (d) :
    (dats m 0 c).before w t d = (cfg0.win w).fill (cfg0.grid.coords t) d (iblk m c w t) := by
  unfold Dat.before; rw [if_pos hf]; rfl

/-- After the first point the output buffer holds the running sum of the points before. -/
theorem before_output (c : Dev nD) (t : Fin cfg0.N) (ht : t.val ≠ 0) (d) :
    (dats m 0 c).before (5 : Fin 6) t d = running m c t.val := by
  have hN : t.val < 5 := lt_of_lt_of_eq t.isLt N_0
  rw [(dats m 0 c).before_out_kept 5 rfl t ht (Bool.eq_false_iff.mpr fun h => by
    have := (flush0_5 ⟨t.val - 1, Nat.lt_of_le_of_lt (Nat.sub_le _ _) t.isLt⟩).mp h
    simp only at this; omega) (fun _ => rfl) (fun _ _ => rfl) d]
  show running m c (t.val - 1 + 1) = _
  rw [Nat.sub_add_cancel (Nat.one_le_iff_ne_zero.mpr ht)]

/-- The body's two branches are taken at the first point and no other. -/
theorem isFirst_iff (t : Fin cfg0.N) : IdealBody.isFirst (grid0.coords t) = 1#1 ↔ t.val = 0 := by
  rcases fin_N0 t with rfl | rfl | rfl | rfl | rfl <;> decide

/-- The body at a point, from the flattened batch, the four blocks and, after the first point, the running sum and the
    one-hot rows: it leaves the running sum one block further and the one-hot rows. -/
theorem body_point (c : Dev nD) (t : Fin cfg0.N)
    (M0 : Memref sig .tc .vmem S8x784 .f32) (h0 : M0.IsWhole) (M1 : Memref sig .tc .vmem S28x2048 .f32) (h1 : M1.IsWhole)
    (M2 : Memref sig .tc .vmem S28x2048 .f32) (h2 : M2.IsWhole) (M3 : Memref sig .tc .vmem S256x2048 .f32) (h3 : M3.IsWhole)
    (M4 : Memref sig .tc .vmem S10x2048 .f32) (h4 : M4.IsWhole) (M5 : Memref sig .tc .vmem S8x10 .f32) (h5 : M5.IsWhole)
    (M6 : Memref sig .tc .vmem S2048x784 .bf16) (h6 : M6.IsWhole) (d1 d2 d3 d4)
    (o : S8x10.Idx → Elt Ideal .f32) (ho : t.val ≠ 0 → o = running m c t.val)
    (S : S2048x784.Idx → Elt Ideal .bf16) (hS : t.val ≠ 0 → S = rows m c) (K : PUnit.{1} → sProp 𝕄) :
    (iprop(IdealBody.held c M0 M1 M2 M3 M4 M5 M6 (V m c main_v0) (win0_1.fill (grid0.coords t) d1 (iblk m c 1 t))
          (win0_2.fill (grid0.coords t) d2 (iblk m c 2 t)) (win0_3.fill (grid0.coords t) d3 (iblk m c 3 t))
          (win0_4.fill (grid0.coords t) d4 (iblk m c 4 t)) o S
        ∗ (IdealBody.held c M0 M1 M2 M3 M4 M5 M6 (V m c main_v0) (win0_1.fill (grid0.coords t) d1 (iblk m c 1 t))
          (win0_2.fill (grid0.coords t) d2 (iblk m c 2 t)) (win0_3.fill (grid0.coords t) d3 (iblk m c 3 t))
          (win0_4.fill (grid0.coords t) d4 (iblk m c 4 t)) (running m c (t.val + 1)) (rows m c) -∗ K ⟨⟩)) : sProp 𝕄)
      ⊢ wp frame (wpE (defs₀ (F := Ideal)) Variants.none c none) Set.univ
          (cc0__body (grid0.coords t) M0 h0 M1 h1 M2 h2 M3 h3 M4 h4 M5 h5 M6 h6) K := by
  rw [← step_running m c t d1 d2 d3 d4]
  by_cases ht : t.val = 0
  · rw [ht, ← running_zero m c]
    exact IdealBody.body_first c Set.univ _ M0 h0 M1 h1 M2 h2 M3 h3 M4 h4 M5 h5 M6 h6 _ _ _ _ _ _ _ K ((isFirst_iff t).mpr ht)
  · rw [ho ht, hS ht]
    exact IdealBody.body_later c Set.univ _ M0 h0 M1 h1 M2 h2 M3 h3 M4 h4 M5 h5 M6 h6 _ _ _ _ _ _ _ K
      fun h => ht ((isFirst_iff t).mp h)

/-- A buffer that holds a block filled out by anything is handed back as the block's part inside the array. -/
theorem refilled (c : Dev nD) (w : Fin cfg0.W) (t : Fin cfg0.N)
    (x : ((cfg0.win w).xblock (cfg0.grid.coords t)).Idx → Elt Ideal (cfg0.win w).elt) (d z) :
    (owns (c : Thread nD τ) ((cfg0.win w).stage (cfg0.slots t w)) fullShare ((cfg0.win w).fill (cfg0.grid.coords t) d x) : sProp 𝕄)
      ⊢ iprop(∃ d, owns (c : Thread nD τ) ((cfg0.win w).stage (cfg0.slots t w)) fullShare
          ((cfg0.win w).fill (cfg0.grid.coords t) d ((cfg0.win w).cut (cfg0.grid.coords t) ((cfg0.win w).fill (cfg0.grid.coords t) z x)))) := by
  iintro H; iexists d; rw [Window.cut_fill]; iexact H

/-- What the pipeline runs at a point is the kernel's body on that point's buffers. -/
theorem defs₀_row (t : Fin cfg0.N) :
    defs₀ (F := Ideal) .tc cfg0.body (cfg0.bodyArgs t (cfg0.slots t)) = bodyAt0 t := by
  unfold defs₀; rw [Defs.onTc_tc]

/-- The body takes each point's buffers and the invariant before it to the buffers and the invariant after it. -/
theorem body_obligation (c : Dev nD) :
    BodyObligationLoose (dats m 0 c) (defs₀ (F := Ideal)) Variants.none () Set.univ := fun t => by
  rw [bigSep_W0, bigSep_W0, defs₀_row]
  simp only
  rw [show (dats m 0 c).Φ t.succ = between m c (t.val + 1) from rfl,
    show (dats m 0 c).Φ t.castSucc = between m c t.val from rfl,
    show (dats m 0 c).owesAt () t.succ = (dats m 0 c).owesAt () t.castSucc from rfl]
  unfold between
  iintro ⟨⟨⟨%S, %hS, HS⟩, HR⟩, Ho, ⟨%d0, H0⟩, ⟨%d1, H1⟩, ⟨%d2, H2⟩, ⟨%d3, H3⟩, ⟨%d4, H4⟩, ⟨%d5, H5⟩⟩
  rw [before_image m c t d0, before_fetched m c 1 t (fetch0_1 t), before_fetched m c 2 t (fetch0_2 t),
    before_fetched m c 3 t (fetch0_3 t), before_fetched m c 4 t (fetch0_4 t)]
  iapply (body_point m c t _ _ _ _ _ _ _ _ _ _ _ _ (Memref.whole cc0_scratch0) _ d1 d2 d3 d4
    ((dats m 0 c).before (5 : Fin 6) t d5) (fun ht => before_output m c t ht d5) S hS _)
  unfold IdealBody.held
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  isplitl [HS HR]
  · isplitl [HS]
    · iexists (rows m c); isplitr; · ipureintro; exact fun _ => rfl
      iexact HS
    iexact HR
  isplitl [Ho]; · iexact Ho
  isplitl [H0]
  · rw [show (dats m 0 c).after (0 : Fin 6) t = V m c main_v0 from Blocks.image_block m c t]; iexact H0
  isplitl [H1]; · iapply (refilled c 1 t (iblk m c 1 t) d1 _); iexact H1
  isplitl [H2]; · iapply (refilled c 2 t (iblk m c 2 t) d2 _); iexact H2
  isplitl [H3]; · iapply (refilled c 3 t (iblk m c 3 t) d3 _); iexact H3
  isplitl [H4]; · iapply (refilled c 4 t (iblk m c 4 t) d4 _); iexact H4
  iexact H5

/-- Before the first point the scratch may hold anything. -/
theorem between_start (c : Dev nD) : (Pipeline.ΦA spec0 c : sProp 𝕄) ⊢ between m c 0 := by
  unfold Pipeline.ΦA between
  rw [scopedRest0_eq]
  simp only [owns_whole_eq]
  iintro ⟨⟨%f, HS⟩, HR⟩
  isplitl [HS]
  · iexists f; isplitr; · ipureintro; exact fun h => absurd rfl h
    iexists f; isplitr; · ipureintro; rfl
    iexact HS
  iexact HR

/-- After the last point what the scratch holds is forgotten. -/
theorem between_end (c : Dev nD) (k : ℕ) : (between m c k : sProp 𝕄) ⊢ Pipeline.ΦA spec0 c := by
  unfold Pipeline.ΦA between
  rw [scopedRest0_eq]
  simp only [owns_whole_eq]
  iintro ⟨⟨%S, -, %f, -, HS⟩, HR⟩
  isplitl [HS]; · iexists f; iexact HS
  iexact HR

set_option backward.isDefEq.respectTransparency.types false in
/-- Every run ends with each array of the pipeline at what the write-backs left and every semaphore counter at zero. -/
theorem run_main : θ_run defs (onTc (τ := τ) (main (F := Ideal))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl)
    (hin := fun c => between_start m c) (hout := fun c => between_end m c _)
    (Q' := fun r => Pipeline.FramePost cfgs (dats m) 0 (V m) r ∧ r.2.sem = fun _ => 0)

/-- The output block is the whole result array. -/
theorem whole_output (t : Fin cfg0.N) (f : S8x10.Idx → EReal) : (win0_5.blk t).view.read (Elt Ideal) f = f := by
  funext j
  show f ((win0_5.rect t).emb j) = f j
  refine congrArg f (funext fun a => Fin.ext ?_)
  exact Window.rect_emb_val_of_index_zero win0_5 t a (by match a with | 0 => rfl | 1 => rfl) j

/-- The result array ends at the running sum of all five points. -/
theorem result (c : Dev nD) : (dats m 0 c).arrAt 5 cfg0.N = running m c 5 := by
  refine (dats m 0 c).arrAt_eq_of_cover 5 (running m c 5) (fun t ht => ?_) fun i => ⟨t0_4, (flush0_5 t0_4).mpr rfl, ?_⟩
  · have h4 : t.val + 1 = 5 := by have := (flush0_5 t).mp ht; have := lt_of_lt_of_eq t.isLt N_0; omega
    refine Eq.trans ?_ (whole_output t (running m c 5)).symm
    show running m c (t.val + 1) = running m c 5
    rw [h4]
  · show i ∈ ((View.whole main_v1).slice (win0_5.rect t0_4)).set
    rw [View.set_slice_whole, Rect.mem_set_unit]
    exact Fin.forall_fin_two.mpr ⟨⟨Nat.zero_le _, (i 0).isLt⟩, ⟨Nat.zero_le _, (i 1).isLt⟩⟩

/-- Every run ends with the result array at the classifier's sums, the argument arrays as launched and every counter at
    zero. -/
theorem run : θ_run defs (onTc (τ := τ) (main (F := Ideal))) ⟨m, fun _ => 0, ρ⟩ (fun r => (∀ c : Dev nD,
      r.2.mem ((c.tc : Thread nD τ).loc main_v1) = running m c 5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).1 5).trans (result m c),
        ((h.1 c).2 main_arg0 (Pipeline.mem_restRefs_of main_arg0 (by decide) (by decide))).trans (V_main_arg0 m c),
        ((h.1 c).1 1).trans (((dats m 0 c).arrAt_in 1 rfl _).trans (V_main_arg1 m c)),
        ((h.1 c).1 2).trans (((dats m 0 c).arrAt_in 2 rfl _).trans (V_main_arg2 m c)),
        ((h.1 c).1 3).trans (((dats m 0 c).arrAt_in 3 rfl _).trans (V_main_arg3 m c)),
        ((h.1 c).1 4).trans (((dats m 0 c).arrAt_in 4 rfl _).trans (V_main_arg4 m c))⟩, h.2⟩)
    (run_main m ρ)

end Cert.IdealRun
-- ==== Proof.Lookups.lean ====
/-
  The three table lookups of the reference, read at an index: a pixel's column hypervector, its row hypervector, and
  the hypervector of its grey level. Each lookup first wraps a negative position, and the last one also replaces what
  lies outside the table; every position met here is inside, so neither step changes anything.
-/
module

public import proofs.«01_k».proof.Proof.Words
public import proofs.«01_k».proof.Proof.Gen.ReferenceIdeal.Read
public import Idealize.ShloMosaic.Lib.ReduceAll
public import Idealize.ShloMosaic.Lib.Pointwise.Index

@[expose] public section

noncomputable section

namespace Cert.Lookups

open Cert.ReferenceIdeal Cert.ReferenceIdeal.Gen Cert.ReferenceIdeal.Read
open Cert.Classifier Cert.Words
open Idealize.ShloMosaic

/-- A word that is not negative is kept by the wrap of negative positions. -/
theorem wrap_keeps (w a : BitVec 32) (h : w.toNat < 2 ^ 31) :
    Scalar.select (IntOp.cmpi .slt w 0#32) a w = w := by
  rw [WordCmp.cmpi_slt_of_lt h (by decide), select_decide, if_neg (by simp)]

/-- A lookup of whole rows in a table, read at one element: the row is where the slice starts, the column is the
    coordinate within the slice. -/
theorem row_read {N C w : ℕ} {si t : Shape} (g : GatherDims ⟨2, ![N, C]⟩ si t) (hc : g.collapsedSliceDims = [0])
    (hb : g.operandBatchingDims = []) (hs : g.startIndexMap = [0]) (x : (⟨2, ![N, C]⟩ : Shape).Idx → EReal) (idx : IVec si w)
    (j : t.Idx) (r : Fin N) (e : Fin C) (hr : g.start j idx (0 : Fin 2) = r.val) (he : g.offCoord j (1 : Fin 2) = e.val) :
    Host.gather g x idx j = x (ix2 r e) := by
  have hbatch : ∀ a, g.batchCoord j a = 0 := fun a => g.batchCoord_eq_zero j a (by rw [hb]; exact List.not_mem_nil)
  unfold Host.gather
  refine congrArg x (funext fun a => Fin.ext ?_)
  show g.start j idx a + g.batchCoord j a + g.offCoord j a = _
  rw [hbatch]
  match a with
  | ⟨0, _⟩ =>
    have h : g.offCoord j (0 : Fin 2) = 0 :=
      g.offCoord_eq_zero j _ fun h => ((g.mem_sKept _).mp h).1 (by rw [hc]; exact List.mem_singleton.mpr rfl)
    show g.start j idx (0 : Fin 2) + 0 + g.offCoord j (0 : Fin 2) = r.val
    rw [h, hr]
    rfl
  | ⟨1, _⟩ =>
    have h : g.start j idx (1 : Fin 2) = 0 := by
      unfold GatherDims.start
      exact dif_neg (by rw [hs]; exact fun h => absurd (congrArg Fin.val (List.mem_singleton.mp h)) Nat.one_ne_zero)
    show g.start j idx (1 : Fin 2) + 0 + g.offCoord j (1 : Fin 2) = e.val
    rw [h, he]
    exact Nat.zero_add _

/-- A position inside a table is not moved by the lookup's clamp. -/
theorem clamp_keeps (w : BitVec 32) (N : ℕ) (h : w.toNat < N) (hN : N ≤ 2 ^ 31) : min w.toInt.toNat (N - 1) = w.toNat := by
  rw [BitVec.toInt_eq_toNat_of_lt (by omega)]
  omega

/-- The lookup in a table of 28 gives, for pixel `p`, the row whose number is the word given for it. -/
theorem coordinate_row (x : S28x10000.Idx → EReal) (idx : IVec S784x1 32) (p : Fin 784) (d : Fin 10000) (r : Fin 28)
    (h : idx (ix2 p (0 : Fin 1)) = BitVec.ofNat 32 r.val) :
    Host.gather gather_S28x10000_S784x1_S784x10000_1_0_n_n_0_1_110000 x idx (ix2 p d) = x (ix2 r d) := by
  refine row_read _ rfl rfl rfl x idx _ r d ?_ rfl
  unfold GatherDims.start
  rw [dif_pos (show (0 : Fin 2) ∈ gather_S28x10000_S784x1_S784x10000_1_0_n_n_0_1_110000.startIndexMap from
    List.mem_singleton.mpr rfl)]
  have hr := r.isLt
  have hw : (BitVec.ofNat 32 r.val).toNat = r.val := by rw [BitVec.toNat_ofNat]; omega
  refine Eq.trans (congrArg (fun k => min (idx k).toInt.toNat 27) (a₂ := ix2 p (0 : Fin 1)) (funext fun b => Fin.ext ?_)) ?_
  · match b with
    | ⟨0, _⟩ => rfl
    | ⟨1, _⟩ => rfl
  · show min (idx (ix2 p (0 : Fin 1))).toInt.toNat (28 - 1) = _
    rw [h, clamp_keeps _ 28 (by omega) (by decide), hw]

/-- The lookup in the table of 256 levels gives, for pixel `p` of image `b`, the row whose number is the word given for it. -/
theorem level_row (x : S256x10000.Idx → EReal) (idx : IVec S8x784x1 32) (b : Fin 8) (p : Fin 784) (d : Fin 10000)
    (h : (idx (ix3 b p (0 : Fin 1))).toNat < 256) :
    Host.gather gather_S256x10000_S8x784x1_S8x784x10000_2_0_n_n_0_2_110000 x idx (ix3 b p d)
      = x (ix2 (⟨(idx (ix3 b p (0 : Fin 1))).toNat, h⟩ : Fin 256) d) := by
  refine row_read _ rfl rfl rfl x idx _ _ d ?_ rfl
  unfold GatherDims.start
  rw [dif_pos (show (0 : Fin 2) ∈ gather_S256x10000_S8x784x1_S8x784x10000_2_0_n_n_0_2_110000.startIndexMap from
    List.mem_singleton.mpr rfl)]
  refine Eq.trans (congrArg (fun k => min (idx k).toInt.toNat 255) (a₂ := ix3 b p (0 : Fin 1)) (funext fun a => Fin.ext ?_)) ?_
  · match a with
    | ⟨0, _⟩ => rfl
    | ⟨1, _⟩ => rfl
    | ⟨2, _⟩ => rfl
  · exact clamp_keeps _ 256 h (by decide)

/-- The column position of pixel `p` is `p mod 28`. -/
theorem column_word (p : Fin 784) :
    val_main_v12 (F := Ideal) (ix2 p (0 : Fin 1)) = BitVec.ofNat 32 (p.val % 28) := by
  rw [val_main_v12_apply, val_main_v11_apply, val_main_v8_apply, val_main_v7_apply, val_main_c_apply]
  have h : val_main_v3 (F := Ideal) (idx_main_v12 (ix2 p (0 : Fin 1))) = BitVec.ofNat 32 (p.val % 28) := by
    rw [val_main_v3_apply, val_main_v2_apply, val_main_v1_apply, val_main_v0_apply]
    exact congrArg (BitVec.ofNat 32) (by show 0 * 28 + p.val % 28 = _; omega)
  rw [h]
  exact wrap_keeps _ _ (by rw [BitVec.toNat_ofNat]; omega)

/-- The row position of pixel `p` is `p div 28`. -/
theorem row_word (p : Fin 784) :
    val_main_v19 (F := Ideal) (ix2 p (0 : Fin 1)) = BitVec.ofNat 32 (p.val / 28) := by
  rw [val_main_v19_apply, val_main_v18_apply, val_main_v15_apply, val_main_v14_apply, val_main_c_1_apply]
  have h : val_main_v6 (F := Ideal) (idx_main_v19 (ix2 p (0 : Fin 1))) = BitVec.ofNat 32 (p.val / 28) := by
    rw [val_main_v6_apply, val_main_v5_apply, val_main_v4_apply]
    rfl
  rw [h]
  exact wrap_keeps _ _ (by rw [BitVec.toNat_ofNat]; omega)

/-- Pixel `p` finds the hypervector of its column. -/
theorem column_found (x1 : S28x10000.Idx → EReal) (p : Fin 784) (d : Fin 10000) :
    val_main_v13 (F := Ideal) x1 (ix2 p d) = x1 (ix2 (⟨p.val % 28, by omega⟩ : Fin 28) d) :=
  coordinate_row x1 _ p d _ (column_word p)

/-- Pixel `p` finds the hypervector of its row. -/
theorem row_found (x2 : S28x10000.Idx → EReal) (p : Fin 784) (d : Fin 10000) :
    val_main_v20 (F := Ideal) x2 (ix2 p d) = x2 (ix2 (⟨p.val / 28, by omega⟩ : Fin 28) d) :=
  coordinate_row x2 _ p d _ (row_word p)

/-- The converted pixel `p` of image `b` is its grey level. -/
theorem level_word (x0 : S8x28x28.Idx → EReal) (i : S8x784.Idx) :
    val_main_v31 (F := Ideal) x0 i = level (x0 (idx_main_v26 i)) := by
  rw [val_main_v31_apply, val_main_v30_apply, val_main_call2_v4_apply, val_main_call2_v3_apply, val_main_c_7_apply,
    val_main_call2_v2_apply, val_main_call2_v1_apply, val_main_call2_v0_apply, val_main_c_6_apply, val_main_v29_apply,
    val_main_v28_apply, val_main_v26_apply, val_main_v27_apply, val_main_cst_5_apply]
  exact level_eq _

/-- The position looked up for a pixel in the table of levels is its grey level. -/
theorem level_position (x0 : S8x28x28.Idx → EReal) (i : S8x784x1.Idx) :
    val_main_call3_v5 (F := Ideal) x0 i = level (x0 (idx_main_v26 (idx_main_call3_v5 i))) := by
  rw [val_main_call3_v5_apply, val_main_call3_v4_apply, val_main_call3_v1_apply, val_main_call3_v0_apply,
    val_main_call3_c_apply, level_word]
  exact wrap_keeps _ _ (lt_trans (level_lt _) (by decide))

/-- Every position looked up in the table of levels passes the test of lying inside the table. -/
theorem inside (x0 : S8x28x28.Idx → EReal) (i : S8x784.Idx) : val_main_call3_v12 (F := Ideal) x0 i = 1#1 := by
  refine Host.reduce_andi_one _ _ _ _ _ rfl fun j => ?_
  rw [val_main_call3_v11_apply, val_main_call3_v7_apply, val_main_call3_v10_apply, val_main_call3_v6_apply,
    val_main_call3_c_2_apply, val_main_call3_v9_apply, val_main_call3_v8_apply, val_main_call3_c_1_apply, level_position]
  have h := level_lt (x0 (idx_main_v26 (idx_main_call3_v5 j)))
  generalize level (x0 (idx_main_v26 (idx_main_call3_v5 j))) = w at h
  rw [WordCmp.cmpi_sge_of_lt (by omega) (by decide), WordCmp.cmpi_sle_of_lt (by omega) (by decide),
    decide_eq_true (by simp), decide_eq_true (by show w.toNat ≤ 255; omega)]
  rfl

/-- Pixel `p` of image `b` finds the hypervector of its grey level. -/
theorem level_found (x0 : S8x28x28.Idx → EReal) (x3 : S256x10000.Idx → EReal) (b : Fin 8) (p : Fin 784) (d : Fin 10000) :
    val_main_v32 (F := Ideal) x0 x3 (ix3 b p d)
      = x3 (ix2 (⟨(level (x0 (ix3 b ⟨p.val / 28, by omega⟩ ⟨p.val % 28, by omega⟩))).toNat, level_lt _⟩ : Fin 256) d) := by
  have hw : val_main_call3_v5 (F := Ideal) x0 (ix3 b p (0 : Fin 1))
      = level (x0 (ix3 b ⟨p.val / 28, by omega⟩ ⟨p.val % 28, by omega⟩)) := by
    rw [level_position]
    refine congrArg (fun k => level (x0 k)) (funext fun a => Fin.ext ?_)
    have hp := p.isLt
    match a with
    | ⟨0, _⟩ => show (b.val * 784 + p.val) / 784 = b.val; omega
    | ⟨1, _⟩ => show (b.val * 784 + p.val) / 28 % 28 = p.val / 28; omega
    | ⟨2, _⟩ => show (b.val * 784 + p.val) % 28 = p.val % 28; omega
  rw [val_main_v32_apply, val_main_call3_v14_apply, inside]
  refine (level_row x3 _ b p d (by rw [hw]; exact level_lt _)).trans ?_
  simp only [hw]

end Cert.Lookups
-- ==== Proof.Reference.lean ====
/-
  What the reference computes: each image's pixels bundled one by one, the signs of the bundle, and their products
  with the class weights summed.
-/
module

public import proofs.«01_k».proof.Proof.Lookups

@[expose] public section

noncomputable section

namespace Cert.Reference

open Cert.ReferenceIdeal Cert.ReferenceIdeal.Gen Cert.ReferenceIdeal.Read
open Cert.Classifier Cert.Words Cert.Lookups
open Idealize.ShloMosaic

variable (x0 : S8x28x28.Idx → EReal) (x1 x2 : S28x10000.Idx → EReal) (x3 : S256x10000.Idx → EReal) (x4 : S10x10000.Idx → EReal)

/-- Component `d` of image `b`'s bundle, added up pixel by pixel. -/
def bundle (b : Fin 8) (d : Fin 10000) : EReal :=
  bundled (fun p => level (x0 (ix3 b ⟨p.val / 28, by omega⟩ ⟨p.val % 28, by omega⟩))) (fun _ => level_lt _)
    (fun r => x1 (ix2 r d)) (fun r => x2 (ix2 r d)) fun l => x3 (ix2 l d)

/-- A choice between the words of one and minus one by a comparison with the word of zero is the hard sign. -/
theorem sign_read (v : EReal) :
    Scalar.select (FloatOps.cmpf (F := Ideal) (φ := .f32) .ogt v (Ideal.ofBits .f32 0x00000000#32)) (Ideal.ofBits .f32 0x3F800000#32)
      (Ideal.ofBits .f32 0xBF800000#32) = sgn v := by
  rw [Ideal.ofBits_zero_f32, Ideal.ofBits_one_f32, neg_one_f32]
  exact select_decide (0 < v) 1 (-1)

/-- The sign pixel `p` is bound with, at component `d`. -/
theorem position_read (p : Fin 784) (d : Fin 10000) :
    val_main_v25 (F := Ideal) x1 x2 (ix2 p d) = position (fun r => x1 (ix2 r d)) (fun r => x2 (ix2 r d)) p := by
  rw [val_main_v25_apply, val_main_v24_apply, val_main_v23_apply, val_main_v22_apply, val_main_cst_apply,
    val_main_call0_v0_apply, val_main_cst_3_apply, val_main_call0_v1_apply, val_main_cst_4_apply, val_main_v21_apply,
    column_found, row_found]
  exact sign_read _

/-- The reference's bundle is the sum over the pixels. -/
theorem bundle_read (b : Fin 8) (d : Fin 10000) :
    val_main_v36 (F := Ideal) x0 x1 x2 x3 (ix2 b d) = bundle x0 x1 x2 x3 b d := by
  rw [val_main_v36_apply, val_main_cst_8_apply]
  unfold bundle bundled
  refine Eq.trans (congrArg (· + _) Ideal.ofBits_zero_f32) ((zero_add _).trans (Finset.sum_congr rfl fun p _ => ?_))
  have hi : idx_main_v36 (ix2 b d) p = ix3 b p d := funext fun a => match a with
    | ⟨0, _⟩ => rfl
    | ⟨1, _⟩ => rfl
    | ⟨2, _⟩ => rfl
  have hj : idx_main_v33 (idx_main_v34 (ix3 b p d)) = ix2 p d := funext fun a => match a with
    | ⟨0, _⟩ => rfl
    | ⟨1, _⟩ => rfl
  rw [hi, val_main_v35_apply, val_main_v34_apply, val_main_v33_apply, hj, position_read, level_found]
  rfl

/-- The reference's result: the signs of the bundle against the class weights. -/
theorem result_read (b : Fin 8) (n : Fin 10) :
    val_main_v42 (F := Ideal) x0 x1 x2 x3 x4 (ix2 b n) = ∑ d : Fin 10000, sgn (bundle x0 x1 x2 x3 b d) * x4 (ix2 n d) := by
  rw [val_main_v42_apply]
  refine Finset.sum_congr rfl fun d _ => ?_
  have hl : lidx_main_v42 (ix2 b n) d = ix2 b d := funext fun a => match a with
    | ⟨0, _⟩ => rfl
    | ⟨1, _⟩ => rfl
  have hr : idx_main_v41 (ridx_main_v42 (ix2 b n) d) = ix2 n d := funext fun a => match a with
    | ⟨0, _⟩ => rfl
    | ⟨1, _⟩ => rfl
  rw [hl, val_main_v40_apply, val_main_v39_apply, val_main_v38_apply, val_main_v37_apply, val_main_cst_9_apply,
    val_main_call4_v0_apply, val_main_cst_10_apply, val_main_call4_v1_apply, val_main_cst_11_apply, bundle_read,
    val_main_v41_apply, hr]
  exact congrArg (· * _) (sign_read _)

end Cert.Reference
-- ==== Proof.Equation.lean ====
/-
  The equation: where the levels are real numbers, the array the kernel ends with is the reference's result of the
  same arguments.
-/
module

public import proofs.«01_k».proof.Proof.Running
public import proofs.«01_k».proof.Proof.Reference

@[expose] public section

noncomputable section

namespace Cert.Equation

open Cert.KernelIdeal Cert.Classifier
open Idealize.ShloMosaic Idealize.ShloMosaic.TcCoe

/-- The kernel's whole sums are the reference's result: level by level and pixel by pixel bundle to the same component. -/
theorem same_result (m : (ℓ : Loc nD τ sig) → Buf (Elt Ideal) ℓ) (c : Dev nD)
    (h : ∀ l d, ∃ r : ℝ, m ((c : Thread nD τ).loc main_arg3) (ix2 l d) = (r : EReal)) :
    Running.running m c 5 = Cert.ReferenceIdeal.Read.val_main_v42 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  funext i
  obtain ⟨b, n, rfl⟩ : ∃ (b : Fin 8) (n : Fin 10), i = ix2 b n := ⟨i 0, i 1, eq_ix2 i⟩
  rw [Running.running_five, Reference.result_read]
  refine Finset.sum_congr rfl fun d _ => ?_
  have e : Running.bundle m c b d = Reference.bundle _ _ _ _ b d :=
    counted_eq_bundled _ (fun _ => level_lt _) _ _ _ fun l => h l d
  unfold Running.product
  rw [e]

end Cert.Equation
-- ==== Proof.Finite.lean ====
/-
  What the precondition says: every component of every level hypervector is a real number.
-/
module

public import proofs.«01_k».proof.Proof.Gen.Pre_finite_levels
public import Idealize.ShloMosaic.Lib.ReduceAll
public import Idealize.ShloMosaic.PureOps.Ideal.Laws

@[expose] public section

noncomputable section

namespace Cert.Finite

open Cert.Pre_finite_levels
open Idealize.ShloMosaic

/-- An extended real whose absolute value lies below infinity is a real number. -/
theorem real_of_abs (v : EReal) (h : max v (-v) < ⊤) : ∃ r : ℝ, v = r := by
  induction v with
  | bot => simp at h
  | top => simp at h
  | coe r => exact ⟨r, rfl⟩

/-- Where the precondition holds, the levels are real numbers. -/
theorem levels_real [Facts] (x0 : FVec Ideal S8x28x28 .f32) (x1 x2 : FVec Ideal S28x10000 .f32)
    (x3 : FVec Ideal S256x10000 .f32) (x4 : FVec Ideal S10x10000 .f32)
    (h : fn (F := Ideal) x0 x1 x2 x3 x4 = fun _ => 1#1) (i : S256x10000.Idx) : ∃ r : ℝ, x3 i = (r : EReal) := by
  have hs : Subsingleton S_.Idx := ⟨fun a b => funext fun k => k.elim0⟩
  have e := Host.reduce_andi_all _ _ _ _ (fun k => k.elim0) (congrFun h _) i
  refine real_of_abs _ ?_
  have hinf : Ideal.ofBits .f32 0x7F800000#32 = ⊤ := by simp [Ideal.ofBits, Ideal.ieee]
  have e' : BitVec.ofBool (decide (max (x3 i) (-(x3 i)) < Ideal.ofBits .f32 0x7F800000#32)) = 1#1 := e
  rw [hinf] at e'
  by_contra hn
  rw [decide_eq_false hn] at e'
  exact absurd e' (by decide)

end Cert.Finite
-- ==== Proof.lean ====
/-
  The certificate's claims, assembled: the kernel's frame at the machine's own floats and over the extended reals, the
  reference's frame, and the equality of the two results where every level is finite.
-/
module

public import proofs.«01_k».proof.Defs
public import proofs.«01_k».proof.Proof.KernelFrame
public import proofs.«01_k».proof.Proof.IdealRun
public import proofs.«01_k».proof.Proof.Equation
public import proofs.«01_k».proof.Proof.Finite
public import Idealize.ShloMosaic.Lib.Quiescent

@[expose] public section

noncomputable section

namespace Cert.Proof

open Idealize.ShloMosaic Idealize.SL.Sem

/-- The idealized kernel ends with its arguments unchanged and every counter at zero. -/
theorem kernel_frame : Cert.quiescent_KernelIdeal := fun m ρ _ =>
  (θ_run Cert.KernelIdeal.defs _ _).mono (fun _ h => ⟨fun c => (h.1 c).2, h.2⟩) (Cert.IdealRun.run m ρ)

/-- The reference ends with its arguments unchanged; it has no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where every level is finite, the idealized kernel and the reference end with the same result. -/
theorem same_results : Cert.algebraic_KernelIdeal_ReferenceIdeal_pre_finite_levels := by
  intro m ρ m' ρ' hpre hargs
  refine ⟨fun c => Cert.Running.running m c 5, ?_, ?_⟩
  · exact (θ_run Cert.KernelIdeal.defs _ _).mono (fun _ h => h.1) (Cert.IdealRun.run m ρ)
  · refine (θ_run Cert.ReferenceIdeal.defs _ _).mono (fun _ h c => ⟨(h c).1.trans ?_, (h c).2⟩)
      (Cert.ReferenceIdeal.Value.run (F := Ideal) m' ρ')
    have e := Cert.Equation.same_result m c fun l d => Cert.Finite.levels_real _ _ _ _ _ (hpre c) (ix2 l d)
    obtain ⟨h0, h1, h2, h3, h4⟩ := hargs c
    rw [Cert.ReferenceIdeal.Read.val_main_v42_eq, h0, h1, h2, h3, h4]
    exact e.symm

/-- Every claim of the certificate. -/
theorem claim : Cert.Claim :=
  ⟨Cert.Kernel.Gen.facts, Cert.KernelIdeal.Gen.facts, Cert.ReferenceIdeal.Gen.facts, Cert.Pre_finite_levels.Gen.facts,
    fun m ρ _ => Cert.KernelFrame.frame m ρ, kernel_frame, fun m ρ _ => kernel_frame m ρ trivial, reference_frame,
    fun m ρ _ => reference_frame m ρ trivial, trivial, same_results⟩

end Cert.Proof

end
